-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_or_live [hPre_zero_or_live : Cert.Pre_zero_or_live.Facts] (m : (ℓ : Loc Cert.KernelIdeal.nD Cert.KernelIdeal.τ Cert.KernelIdeal.sig) → Buf (Elt Ideal) ℓ) : Prop :=
  ∀ c : Dev Cert.KernelIdeal.nD,
    (Cert.Pre_zero_or_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_or_live [hPre_zero_or_live : Cert.Pre_zero_or_live.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_or_live.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_zero_or_live [hKernelIdeal : Cert.KernelIdeal.Facts] [hPre_zero_or_live : Cert.Pre_zero_or_live.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_or_live m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_zero_or_live [hReferenceIdeal : Cert.ReferenceIdeal.Facts] [hPre_zero_or_live : Cert.Pre_zero_or_live.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_or_live m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_zero_or_live [hKernelIdeal : Cert.KernelIdeal.Facts] [hReferenceIdeal : Cert.ReferenceIdeal.Facts] [hPre_zero_or_live : Cert.Pre_zero_or_live.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_or_live m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_zero_or_live : Cert.Pre_zero_or_live.Facts),
    quiescent_Kernel (hKernel := hKernel)
    ∧ quiescent_KernelIdeal (hKernelIdeal := hKernelIdeal)
    ∧ quiescent_KernelIdeal_pre_zero_or_live (hKernelIdeal := hKernelIdeal) (hPre_zero_or_live := hPre_zero_or_live)
    ∧ quiescent_ReferenceIdeal (hReferenceIdeal := hReferenceIdeal)
    ∧ quiescent_ReferenceIdeal_pre_zero_or_live (hReferenceIdeal := hReferenceIdeal) (hPre_zero_or_live := hPre_zero_or_live)
    ∧ preserves_Kernel_KernelIdeal
    ∧ algebraic_KernelIdeal_ReferenceIdeal_pre_zero_or_live (hKernelIdeal := hKernelIdeal) (hReferenceIdeal := hReferenceIdeal) (hPre_zero_or_live := hPre_zero_or_live)
-- ==== Pre_zero_or_live.lean ====
abbrev S16384x3x16 : Shape := ⟨3, ![16384, 3, 16]⟩
abbrev S3x128x1 : Shape := ⟨3, ![3, 128, 1]⟩
abbrev S384 : Shape := ⟨1, ![384]⟩
abbrev S3x128x128 : Shape := ⟨3, ![3, 128, 128]⟩
abbrev S3x384 : Shape := ⟨2, ![3, 384]⟩
abbrev S3 : Shape := ⟨1, ![3]⟩
abbrev S_ : Shape := ⟨0, ![]⟩

class Facts : Prop where
  bcast_S_S16384x3x16 : S_.BroadcastsInDim S16384x3x16 (![] : Fin 0 → Fin S16384x3x16.rank)
  reducesTo_S16384x3x16_S_d0_1_2 : S16384x3x16.ReducesTo [0, 1, 2] S_
  h_S_ : 0 < S_.numel
  bcast_S_S384 : S_.BroadcastsInDim S384 (![] : Fin 0 → Fin S384.rank)
  reducesTo_S384_S_d0 : S384.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x384 : S_.BroadcastsInDim S3x384 (![] : Fin 0 → Fin S3x384.rank)
  reducesTo_S3x384_S_d0_1 : S3x384.ReducesTo [0, 1] S_

variable [Facts]

def fn_part1 {F : FTy → Type} [FloatOps F] (main_arg5 : FVec F S3x384 .f32) (main_v5 : IVec S_ 1) (main_v14 : IVec S_ 1) (main_v15 : FVec F S384 .f32) (main_cst_5 : FVec F S_ .f32) : IVec S_ 1 :=
  let main_v16 : FVec F S384 .f32 := broadcastInDim S384 ![] bcast_S_S384 main_cst_5
  let main_v17 : IVec S384 1 := cmpf .olt main_v15 main_v16
  let main_c_6 : IVec S_ 1 := constantI S_ 1 1#1
  let main_v18 : IVec S_ 1 := (fun x v => Host.reduce IntOp.andi x v reducesTo_S384_S_d0 h_S_) main_v17 main_c_6
  let main_v19 : IVec S_ 1 := andi main_v14 main_v18
  let main_v20 : FVec F S3x384 .f32 := Host.absf main_arg5
  let main_cst_7 : FVec F S_ .f32 := constant S_ .f32 0x7F800000#32
  let main_v21 : FVec F S3x384 .f32 := broadcastInDim S3x384 ![] bcast_S_S3x384 main_cst_7
  let main_v22 : IVec S3x384 1 := cmpf .olt main_v20 main_v21
  let main_c_8 : IVec S_ 1 := constantI S_ 1 1#1
  let main_v23 : IVec S_ 1 := (fun x v => Host.reduce IntOp.andi x v reducesTo_S3x384_S_d0_1 h_S_) main_v22 main_c_8
  let main_v24 : IVec S_ 1 := andi main_v19 main_v23
  let main_v25 : IVec S_ 1 := andi main_v5 main_v24
  main_v25

def fn {F : FTy → Type} [FloatOps F] (main_arg0 : FVec F S16384x3x16 .f32) (main_arg1 : FVec F S3x128x1 .f32) (main_arg2 : FVec F S384 .f32) (main_arg3 : FVec F S3x128x128 .f32) (main_arg4 : FVec F S384 .f32) (main_arg5 : FVec F S3x384 .f32) (main_arg6 : FVec F S3 .f32) : IVec S_ 1 :=
  let main_cst : FVec F S_ .f32 := constant S_ .f32 0x00000000#32
  let main_v0 : FVec F S16384x3x16 .f32 := broadcastInDim S16384x3x16 ![] bcast_S_S16384x3x16 main_cst
  let main_v1 : IVec S16384x3x16 1 := cmpf .oeq main_arg0 main_v0
  let main_cst_0 : FVec F S_ .f32 := constant S_ .f32 0x358637BD#32
  let main_v2 : FVec F S16384x3x16 .f32 := broadcastInDim S16384x3x16 ![] bcast_S_S16384x3x16 main_cst_0
  let main_v3 : IVec S16384x3x16 1 := cmpf .ogt main_arg0 main_v2
  let main_v4 : IVec S16384x3x16 1 := ori main_v1 main_v3
  let main_c : IVec S_ 1 := constantI S_ 1 1#1
  let main_v5 : IVec S_ 1 := (fun x v => Host.reduce IntOp.andi x v reducesTo_S16384x3x16_S_d0_1_2 h_S_) main_v4 main_c
  let main_v6 : FVec F S384 .f32 := Host.absf main_arg2
  let main_cst_1 : FVec F S_ .f32 := constant S_ .f32 0x7F800000#32
  let main_v7 : FVec F S384 .f32 := broadcastInDim S384 ![] bcast_S_S384 main_cst_1
  let main_v8 : IVec S384 1 := cmpf .olt main_v6 main_v7
  let main_c_2 : IVec S_ 1 := constantI S_ 1 1#1
  let main_v9 : IVec S_ 1 := (fun x v => Host.reduce IntOp.andi x v reducesTo_S384_S_d0 h_S_) main_v8 main_c_2
  let main_v10 : FVec F S3x128x128 .f32 := Host.absf main_arg3
  let main_cst_3 : FVec F S_ .f32 := constant S_ .f32 0x7F800000#32
  let main_v11 : FVec F S3x128x128 .f32 := broadcastInDim S3x128x128 ![] bcast_S_S3x128x128 main_cst_3
  let main_v12 : IVec S3x128x128 1 := cmpf .olt main_v10 main_v11
  let main_c_4 : IVec S_ 1 := constantI S_ 1 1#1
  let main_v13 : IVec S_ 1 := (fun x v => Host.reduce IntOp.andi x v reducesTo_S3x128x128_S_d0_1_2 h_S_) main_v12 main_c_4
  let main_v14 : IVec S_ 1 := andi main_v9 main_v13
  let main_v15 : FVec F S384 .f32 := Host.absf main_arg4
  let main_cst_5 : FVec F S_ .f32 := constant S_ .f32 0x7F800000#32
  fn_part1 (F := F) main_arg5 main_v5 main_v14 main_v15 main_cst_5
-- ==== Kernel.lean ====
abbrev S16384x3x16 : Shape := ⟨3, ![16384, 3, 16]⟩
abbrev S3x128x1 : Shape := ⟨3, ![3, 128, 1]⟩
abbrev S384 : Shape := ⟨1, ![384]⟩
abbrev S3x128x128 : Shape := ⟨3, ![3, 128, 128]⟩
abbrev S3x384 : Shape := ⟨2, ![3, 384]⟩
abbrev S3 : Shape := ⟨1, ![3]⟩
abbrev S16384x48 : Shape := ⟨2, ![16384, 48]⟩
abbrev S3x128 : Shape := ⟨2, ![3, 128]⟩
abbrev S128x3 : Shape := ⟨2, ![128, 3]⟩
abbrev S3x128x129 : Shape := ⟨3, ![3, 128, 129]⟩
abbrev S_ : Shape := ⟨0, ![]⟩
abbrev S3x3x128 : Shape := ⟨3, ![3, 3, 128]⟩
abbrev S3x3 : Shape := ⟨2, ![3, 3]⟩
abbrev S3x1 : Shape := ⟨2, ![3, 1]⟩
abbrev S1024x48 : Shape := ⟨2, ![1024, 48]⟩
abbrev S384x16384 : Shape := ⟨2, ![384, 16384]⟩
abbrev S1024x16 : Shape := ⟨2, ![1024, 16]⟩
abbrev S16x1024 : Shape := ⟨2, ![16, 1024]⟩
abbrev S1x1024 : Shape := ⟨2, ![1, 1024]⟩
abbrev S1x16384 : Shape := ⟨2, ![1, 16384]⟩
abbrev S3x16384 : Shape := ⟨2, ![3, 16384]⟩
abbrev S128x1 : Shape := ⟨2, ![128, 1]⟩
abbrev S128x16384 : Shape := ⟨2, ![128, 16384]⟩
abbrev S129x16384 : Shape := ⟨2, ![129, 16384]⟩
abbrev S1x128x129 : Shape := ⟨3, ![1, 128, 129]⟩
abbrev S128x129 : Shape := ⟨2, ![128, 129]⟩
abbrev S48x1024 : Shape := ⟨2, ![48, 1024]⟩

abbrev nBuf : Space → Nat
  | .hbm => 36
  | .vmem => 11
  | .smem => 0
  | _ => 0

abbrev bufTy : (tb : Table) → Fin (tcTables nBuf tb) → BufTy
  | .hbm, ⟨0, _⟩ => ⟨S16384x3x16, .f32⟩
  | .hbm, ⟨1, _⟩ => ⟨S3x128x1, .f32⟩
  | .hbm, ⟨2, _⟩ => ⟨S384, .f32⟩
  | .hbm, ⟨3, _⟩ => ⟨S3x128x128, .f32⟩
  | .hbm, ⟨4, _⟩ => ⟨S384, .f32⟩
  | .hbm, ⟨5, _⟩ => ⟨S3x384, .f32⟩
  | .hbm, ⟨6, _⟩ => ⟨S3, .f32⟩
  | .hbm, ⟨7, _⟩ => ⟨S16384x48, .f32⟩
  | .hbm, ⟨8, _⟩ => ⟨S3x128, .f32⟩
  | .hbm, ⟨9, _⟩ => ⟨S128x3, .f32⟩
  | .hbm, ⟨10, _⟩ => ⟨S128x3, .bf16⟩
  | .hbm, ⟨11, _⟩ => ⟨S3x128, .f32⟩
  | .hbm, ⟨12, _⟩ => ⟨S128x3, .f32⟩
  | .hbm, ⟨13, _⟩ => ⟨S128x3, .bf16⟩
  | .hbm, ⟨14, _⟩ => ⟨S3x128, .f32⟩
  | .hbm, ⟨15, _⟩ => ⟨S3x128x1, .f32⟩
  | .hbm, ⟨16, _⟩ => ⟨S3x128x129, .f32⟩
  | .hbm, ⟨17, _⟩ => ⟨S3x128x129, .bf16⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S3x128, .f32⟩
  | .hbm, ⟨23, _⟩ => ⟨S3x128, .f32⟩
  | .hbm, ⟨24, _⟩ => ⟨S_, .f32⟩
  | .hbm, ⟨25, _⟩ => ⟨S3x128, .f32⟩
  | .hbm, ⟨26, _⟩ => ⟨S3x128, .f32⟩
  | .hbm, ⟨27, _⟩ => ⟨S3x3x128, .f32⟩
  | .hbm, ⟨28, _⟩ => ⟨S3x3, .f32⟩
  | .hbm, ⟨29, _⟩ => ⟨S3x3, .f32⟩
  | .hbm, ⟨30, _⟩ => ⟨S3, .f32⟩
  | .hbm, ⟨31, _⟩ => ⟨S3, .f32⟩
  | .hbm, ⟨32, _⟩ => ⟨S3x1, .f32⟩
  | .hbm, ⟨33, _⟩ => ⟨S3x384, .bf16⟩
  | .hbm, ⟨34, _⟩ => ⟨S16384x48, .f32⟩
  | .hbm, ⟨35, _⟩ => ⟨S16384x3x16, .f32⟩
  | .local _ .vmem, ⟨0, _⟩ => ⟨S1024x48, .f32⟩
  | .local _ .vmem, ⟨1, _⟩ => ⟨S1024x48, .f32⟩
  | .local _ .vmem, ⟨2, _⟩ => ⟨S128x3, .bf16⟩
  | .local _ .vmem, ⟨3, _⟩ => ⟨S128x3, .bf16⟩
  | .local _ .vmem, ⟨4, _⟩ => ⟨S3x128x129, .bf16⟩
  | .local _ .vmem, ⟨5, _⟩ => ⟨S3x384, .bf16⟩
  | .local _ .vmem, ⟨6, _⟩ => ⟨S3x1, .f32⟩
  | .local _ .vmem, ⟨7, _⟩ => ⟨S3x3, .f32⟩
  | .local _ .vmem, ⟨8, _⟩ => ⟨S1024x48, .f32⟩
  | .local _ .vmem, ⟨9, _⟩ => ⟨S1024x48, .f32⟩
  | .local _ .vmem, ⟨10, _⟩ => ⟨S384x16384, .bf16⟩
  | _, _ => ⟨S16384x3x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x3 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x129 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x3x16 : Shape := ⟨3, ![16384, 3, 16]⟩
abbrev S3x128x1 : Shape := ⟨3, ![3, 128, 1]⟩
abbrev S384 : Shape := ⟨1, ![384]⟩
abbrev S3x128x128 : Shape := ⟨3, ![3, 128, 128]⟩
abbrev S3x384 : Shape := ⟨2, ![3, 384]⟩
abbrev S3 : Shape := ⟨1, ![3]⟩
abbrev S_ : Shape := ⟨0, ![]⟩
abbrev S16384x3x128x16 : Shape := ⟨4, ![16384, 3, 128, 16]⟩
abbrev S16384x384x16 : Shape := ⟨3, ![16384, 384, 16]⟩
abbrev S16384x16 : Shape := ⟨2, ![16384, 16]⟩
abbrev S16384x3x1x16 : Shape := ⟨4, ![16384, 3, 1, 16]⟩
abbrev S3x128x16384x16 : Shape := ⟨4, ![3, 128, 16384, 16]⟩
abbrev S1x3x128x1 : Shape := ⟨4, ![1, 3, 128, 1]⟩
abbrev S3x16384x16 : Shape := ⟨3, ![3, 16384, 16]⟩
abbrev S1x3x1 : Shape := ⟨3, ![1, 3, 1]⟩
abbrev S16384x1x16 : Shape := ⟨3, ![16384, 1, 16]⟩

abbrev nBuf : Space → Nat
  | .hbm => 51
  | .vmem => 0
  | .smem => 0
  | _ => 0

abbrev bufTy : (tb : Table) → Fin (tcTables nBuf tb) → BufTy
  | .hbm, ⟨0, _⟩ => ⟨S16384x3x16, .f32⟩
  | .hbm, ⟨1, _⟩ => ⟨S3x128x1, .f32⟩
  | .hbm, ⟨2, _⟩ => ⟨S384, .f32⟩
  | .hbm, ⟨3, _⟩ => ⟨S3x128x128, .f32⟩
  | .hbm, ⟨4, _⟩ => ⟨S384, .f32⟩
  | .hbm, ⟨5, _⟩ => ⟨S3x384, .f32⟩
  | .hbm, ⟨6, _⟩ => ⟨S3, .f32⟩
  | .hbm, ⟨7, _⟩ => ⟨S_, .f32⟩
  | .hbm, ⟨8, _⟩ => ⟨S16384x3x16, .f32⟩
  | .hbm, ⟨9, _⟩ => ⟨S16384x3x16, .i1⟩
  | .hbm, ⟨10, _⟩ => ⟨S16384x3x16, .f32⟩
  | .hbm, ⟨11, _⟩ => ⟨S16384x3x128x16, .f32⟩
  | .hbm, ⟨12, _⟩ => ⟨S16384x384x16, .f32⟩
  | .hbm, ⟨13, _⟩ => ⟨S_, .f32⟩
  | .hbm, ⟨14, _⟩ => ⟨S16384x16, .f32⟩
  | .hbm, ⟨15, _⟩ => ⟨S16384x3x1x16, .f32⟩
  | .hbm, ⟨16, _⟩ => ⟨S3x128x16384x16, .f32⟩
  | .hbm, ⟨17, _⟩ => ⟨S16384x3x128x16, .f32⟩
  | .hbm, ⟨18, _⟩ => ⟨S1x3x128x1, .f32⟩
  | .hbm, ⟨19, _⟩ => ⟨S16384x3x128x16, .f32⟩
  | .hbm, ⟨20, _⟩ => ⟨S16384x3x128x16, .f32⟩
  | .hbm, ⟨21, _⟩ => ⟨S_, .f32⟩
  | .hbm, ⟨22, _⟩ => ⟨S16384x3x128x16, .f32⟩
  | .hbm, ⟨23, _⟩ => ⟨S16384x3x128x16, .f32⟩
  | .hbm, ⟨24, _⟩ => ⟨S3x128x16384x16, .f32⟩
  | .hbm, ⟨25, _⟩ => ⟨S16384x3x128x16, .f32⟩
  | .hbm, ⟨26, _⟩ => ⟨S1x3x128x1, .f32⟩
  | .hbm, ⟨27, _⟩ => ⟨S16384x3x128x16, .f32⟩
  | .hbm, ⟨28, _⟩ => ⟨S16384x3x128x16, .f32⟩
  | .hbm, ⟨29, _⟩ => ⟨S_, .f32⟩
  | .hbm, ⟨30, _⟩ => ⟨S16384x3x128x16, .f32⟩
  | .hbm, ⟨31, _⟩ => ⟨S16384x3x128x16, .f32⟩
  | .hbm, ⟨32, _⟩ => ⟨S16384x384x16, .f32⟩
  | .hbm, ⟨33, _⟩ => ⟨S16384x384x16, .f32⟩
  | .hbm, ⟨34, _⟩ => ⟨S3x16384x16, .f32⟩
  | .hbm, ⟨35, _⟩ => ⟨S16384x3x16, .f32⟩
  | .hbm, ⟨36, _⟩ => ⟨S1x3x1, .f32⟩
  | .hbm, ⟨37, _⟩ => ⟨S16384x3x16, .f32⟩
  | .hbm, ⟨38, _⟩ => ⟨S16384x3x16, .f32⟩
  | .hbm, ⟨39, _⟩ => ⟨S16384x3x16, .f32⟩
  | .hbm, ⟨40, _⟩ => ⟨S16384x16, .f32⟩
  | .hbm, ⟨41, _⟩ => ⟨S16384x16, .f32⟩
  | .hbm, ⟨42, _⟩ => ⟨S_, .f32⟩
  | .hbm, ⟨43, _⟩ => ⟨S16384x16, .f32⟩
  | .hbm, ⟨44, _⟩ => ⟨S16384x16, .f32⟩
  | .hbm, ⟨45, _⟩ => ⟨S_, .f32⟩
  | .hbm, ⟨46, _⟩ => ⟨S16384x16, .f32⟩
  | .hbm, ⟨47, _⟩ => ⟨S16384x16, .f32⟩
  | .hbm, ⟨48, _⟩ => ⟨S16384x1x16, .f32⟩
  | .hbm, ⟨49, _⟩ => ⟨S16384x3x16, .f32⟩
  | .hbm, ⟨50, _⟩ => ⟨S16384x3x16, .f32⟩
  | _, _ => ⟨S16384x3x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_cst : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Proof.Spec.lean ====
/-
  The mathematics of the two programs at one batch row, one lane and one output, as extended-real arithmetic that names
  no program: what a group's two-layer network gives, what it gives at input zero, and the equation by which adding the
  masked constant back to the unmasked sum gives the masked sum.
-/
module

public import Idealize.ShloMosaic.PureOps.Ideal.Laws

@[expose] public section

noncomputable section

namespace Cert.Spec

open scoped BigOperators

/-- A value that is neither infinity. -/
def IsFin (x : EReal) : Prop := x ≠ ⊤ ∧ x ≠ ⊥

/-- A real number is finite. -/
theorem IsFin.coe (r : ℝ) : IsFin (r : EReal) := ⟨EReal.coe_ne_top r, EReal.coe_ne_bot r⟩

/-- A finite value is a real number. -/
theorem IsFin.exists {x : EReal} (h : IsFin x) : ∃ r : ℝ, x = r := ⟨x.toReal, (EReal.coe_toReal h.1 h.2).symm⟩

/-- A sum of two finite values is finite. -/
theorem IsFin.add {x y : EReal} (hx : IsFin x) (hy : IsFin y) : IsFin (x + y) := by
  obtain ⟨a, rfl⟩ := hx.exists; obtain ⟨b, rfl⟩ := hy.exists
  rw [← EReal.coe_add]; exact IsFin.coe _

/-- A product of two finite values is finite. -/
theorem IsFin.mul {x y : EReal} (hx : IsFin x) (hy : IsFin y) : IsFin (x * y) := by
  obtain ⟨a, rfl⟩ := hx.exists; obtain ⟨b, rfl⟩ := hy.exists
  rw [← EReal.coe_mul]; exact IsFin.coe _

/-- Zero is finite. -/
theorem IsFin.zero : IsFin 0 := IsFin.coe 0

/-- The larger of two finite values is finite. -/
theorem IsFin.max {x y : EReal} (hx : IsFin x) (hy : IsFin y) : IsFin (max x y) := by
  rcases max_choice x y with h | h <;> rw [h] <;> assumption

/-- A finite sum of finite values is finite. -/
theorem IsFin.sum {ι : Type} (s : Finset ι) (f : ι → EReal) (h : ∀ i ∈ s, IsFin (f i)) : IsFin (∑ i ∈ s, f i) :=
  Finset.sum_induction f IsFin (fun _ _ => IsFin.add) IsFin.zero h

/-- A finite value and its negation cancel. -/
theorem IsFin.add_neg {x : EReal} (h : IsFin x) : x + -x = 0 := by
  obtain ⟨r, rfl⟩ := h.exists
  rw [← EReal.coe_neg, ← EReal.coe_add, add_neg_cancel, EReal.coe_zero]

/-- The negation of a sum whose first term is finite is the sum of the negations. -/
theorem IsFin.neg_add {x y : EReal} (h : IsFin x) : -(x + y) = -x + -y := by
  rw [EReal.neg_add (.inl h.2) (.inl h.1), sub_eq_add_neg]

/-- A group's second layer: `128` hidden units over the clamped first layer of the scalar `x`. -/
def layer2 (w1 b1 : Fin 128 → EReal) (w2 : Fin 128 → Fin 128 → EReal) (b2 : Fin 128 → EReal) (x : EReal) (k : Fin 128) : EReal :=
  max ((∑ c, w2 k c * max (w1 c * x + b1 c) 0) + b2 k) 0

/-- The same second layer with the scalar's term left out: its value at input zero. -/
def layer2Zero (b1 : Fin 128 → EReal) (w2 : Fin 128 → Fin 128 → EReal) (b2 : Fin 128 → EReal) (k : Fin 128) : EReal :=
  max ((∑ c, w2 k c * max (b1 c) 0) + b2 k) 0

/-- The threshold both programs compare the inputs with: the constant printed for a millionth. -/
abbrev eps : EReal := Idealize.ShloMosaic.Ideal.ofBits .f32 0x358637BD#32

/-- The liveness mask: one above the threshold `ε`, zero otherwise. -/
def mask (ε x : EReal) : EReal := if ε < x then 1 else 0

/-- The output's scale: the reciprocal of the cube of the groups' sum plus the constant printed for a tenth. -/
def scale (r : EReal) : EReal :=
  Idealize.ShloMosaic.Ideal.div 1 (r * r * r + Idealize.ShloMosaic.Ideal.ofBits .f32 0x3DCCCCCD#32)

/-- At input zero the second layer is its constant. -/
theorem layer2_zero (w1 b1 : Fin 128 → EReal) (w2 : Fin 128 → Fin 128 → EReal) (b2 : Fin 128 → EReal) (k : Fin 128) :
    layer2 w1 b1 w2 b2 0 k = layer2Zero b1 w2 b2 k := by
  simp only [layer2, layer2Zero, mul_zero, zero_add]

/-- That constant is finite when the biases and weights it is made of are. -/
theorem layer2Zero_finite {b1 : Fin 128 → EReal} {w2 : Fin 128 → Fin 128 → EReal} {b2 : Fin 128 → EReal}
    (h1 : ∀ c, IsFin (b1 c)) (hw : ∀ k c, IsFin (w2 k c)) (h2 : ∀ k, IsFin (b2 k)) (k : Fin 128) : IsFin (layer2Zero b1 w2 b2 k) :=
  ((IsFin.sum _ _ fun c _ => (hw k c).mul ((h1 c).max IsFin.zero)).add (h2 k)).max IsFin.zero

/-- One group's cancellation: its unmasked contribution, plus its constant times the mask, less its constant, is its
    masked contribution — the constant is finite, and where the mask is zero the input is zero. -/
theorem group_cancel {w1 b1 : Fin 128 → EReal} {w2 : Fin 128 → Fin 128 → EReal} {b2 wl : Fin 128 → EReal} {ε x : EReal}
    (h1 : ∀ c, IsFin (b1 c)) (hw : ∀ k c, IsFin (w2 k c)) (h2 : ∀ k, IsFin (b2 k)) (hl : ∀ k, IsFin (wl k)) (hx : x = 0 ∨ ε < x) :
    (∑ k, wl k * layer2 w1 b1 w2 b2 x k) + ((∑ k, wl k * layer2Zero b1 w2 b2 k) * mask ε x + -(∑ k, wl k * layer2Zero b1 w2 b2 k))
      = ∑ k, wl k * (layer2 w1 b1 w2 b2 x k * mask ε x) := by
  have hC : IsFin (∑ k, wl k * layer2Zero b1 w2 b2 k) := IsFin.sum _ _ fun k _ => (hl k).mul (layer2Zero_finite h1 hw h2 k)
  by_cases hm : ε < x
  · simp only [mask, if_pos hm, mul_one, hC.add_neg, add_zero]
  · obtain rfl : x = 0 := hx.resolve_right hm
    simp only [mask, if_neg hm, mul_zero, layer2_zero, zero_add, hC.add_neg, Finset.sum_const_zero]

/-- THE EQUATION of the argument of the hyperbolic tangent: the unmasked sum over the three groups with the constants
    subtracted from the bias and added back masked, in the kernel's order, is the masked sum plus the bias. -/
theorem logit_eq {w1 b1 : Fin 3 → Fin 128 → EReal} {w2 : Fin 3 → Fin 128 → Fin 128 → EReal} {b2 wl : Fin 3 → Fin 128 → EReal}
    {ε : EReal} {x : Fin 3 → EReal} (bl : EReal)
    (h1 : ∀ g c, IsFin (b1 g c)) (hw : ∀ g k c, IsFin (w2 g k c)) (h2 : ∀ g k, IsFin (b2 g k)) (hl : ∀ g k, IsFin (wl g k))
    (hx : ∀ g, x g = 0 ∨ ε < x g) :
    ((∑ g, ∑ k, wl g k * layer2 (w1 g) (b1 g) (w2 g) (b2 g) (x g) k)
        + (bl - ∑ g, ∑ k, layer2Zero (b1 g) (w2 g) (b2 g) k * wl g k))
      + (((0 + (∑ k, wl 0 k * layer2Zero (b1 0) (w2 0) (b2 0) k) * mask ε (x 0))
            + (∑ k, wl 1 k * layer2Zero (b1 1) (w2 1) (b2 1) k) * mask ε (x 1))
          + (∑ k, wl 2 k * layer2Zero (b1 2) (w2 2) (b2 2) k) * mask ε (x 2))
      = (∑ g, ∑ k, wl g k * (layer2 (w1 g) (b1 g) (w2 g) (b2 g) (x g) k * mask ε (x g))) + bl := by
  have hC : ∀ g, IsFin (∑ k, wl g k * layer2Zero (b1 g) (w2 g) (b2 g) k) := fun g =>
    IsFin.sum _ _ fun k _ => (hl g k).mul (layer2Zero_finite (h1 g) (hw g) (h2 g) k)
  simp only [← group_cancel (h1 _) (hw _) (h2 _) (hl _) (hx _), mul_comm (layer2Zero _ _ _ _) (wl _ _)]
  simp only [Fin.sum_univ_three, sub_eq_add_neg, ((hC 0).add (hC 1)).neg_add, (hC 0).neg_add, zero_add]
  ac_rfl

/-- A sum over `384` positions, cut in three groups of `128`. -/
theorem sum_384 (f : Fin 384 → EReal) :
    ∑ s, f s = ∑ g : Fin 3, ∑ k : Fin 128, f ⟨128 * g.val + k.val, by omega⟩ := by
  rw [← Fintype.sum_prod_type' (f := fun (g : Fin 3) (k : Fin 128) => f ⟨128 * g.val + k.val, by omega⟩)]
  exact (Fintype.sum_equiv (finProdFinEquiv (m := 3) (n := 128)) _ _ fun p => congrArg f (Fin.ext (by
    simp only [finProdFinEquiv_apply_val]; omega))).symm

end Cert.Spec
-- ==== Proof.Host.lean ====
module

public import proofs.«01_k».proof.Proof.Gen.KernelIdeal.Frame
public import proofs.«01_k».proof.Proof.Spec
public import Idealize.ShloMosaic.Lib.Pointwise

/-! What the host operations before the region leave in the region's operands, read at an index. -/

@[expose] public section

noncomputable section

namespace Cert.KernelIdeal.Host

open Idealize.ShloMosaic Idealize.ShloMosaic.Pointwise Idealize.SL.Sem
open Cert.KernelIdeal Cert.KernelIdeal.Gen Cert.Spec

variable (m : (ℓ : Loc nD τ sig) → Buf (Elt Ideal) ℓ) (c : Dev nD)

/-- The input, as it was at launch. -/
abbrev a0 : FVec Ideal S16384x3x16 .f32 := m ((c.tc : Thread nD τ).loc main_arg0)
/-- The first layer's weights. -/
abbrev a1 : FVec Ideal S3x128x1 .f32 := m ((c.tc : Thread nD τ).loc main_arg1)
/-- The first layer's biases. -/
abbrev a2 : FVec Ideal S384 .f32 := m ((c.tc : Thread nD τ).loc main_arg2)
/-- The second layer's weights. -/
abbrev a3 : FVec Ideal S3x128x128 .f32 := m ((c.tc : Thread nD τ).loc main_arg3)
/-- The second layer's biases. -/
abbrev a4 : FVec Ideal S384 .f32 := m ((c.tc : Thread nD τ).loc main_arg4)
/-- The output weights. -/
abbrev a5 : FVec Ideal S3x384 .f32 := m ((c.tc : Thread nD τ).loc main_arg5)
/-- The output biases. -/
abbrev a6 : FVec Ideal S3 .f32 := m ((c.tc : Thread nD τ).loc main_arg6)

/-- The region's first operand, the input. -/
def r0 : FVec Ideal S16384x48 .f32 := V m c main_v0
/-- Its second, the first layer's weights. -/
def r1 : FVec Ideal S128x3 .bf16 := V m c main_v3
/-- Its third, the first layer's biases. -/
def r2 : FVec Ideal S128x3 .bf16 := V m c main_v6
/-- Its fourth, the second layer's weights and biases. -/
def r3 : FVec Ideal S3x128x129 .bf16 := V m c main_v10
/-- Its fifth, the output weights. -/
def r4 : FVec Ideal S3x384 .bf16 := V m c main_v22
/-- Its sixth, the output biases less the groups' constants. -/
def r5 : FVec Ideal S3x1 .f32 := V m c main_v21
/-- Its seventh, the groups' constants. -/
def r6 : FVec Ideal S3x3 .f32 := V m c main_v18

/-- All host operations before the region, in one list. -/
abbrev hostOps : List (HloOp τ sig (Elt Ideal)) := hostOps0 ++ (hostOps0_1 ++ (hostOps0_2 ++ (hostOps0_3 ++ (hostOps0_4 ++ []))))

/-- The host's second layer at the zero input. -/
def atZero (x2 : FVec Ideal S384 .f32) (x3 : FVec Ideal S3x128x128 .f32) (x4 : FVec Ideal S384 .f32) : FVec Ideal S3x128 .f32 :=
  maximumf (addf (Host.dotGeneral dot_S3x128x128_S3x128_S3x128_2_1_1_n_0_0 none x3
      (maximumf (shapeCast S3x128 x2 shapeCasts_S384_S3x128) (broadcastInDim S3x128 ![] bcast_S_S3x128 (constant S_ .f32 0x00000000#32))))
    (shapeCast S3x128 x4 shapeCasts_S384_S3x128)) (broadcastInDim S3x128 ![] bcast_S_S3x128 (constant S_ .f32 0x00000000#32))

/-- The host's second layer at the zero input, at an index. -/
theorem atZero_apply (x2 : FVec Ideal S384 .f32) (x3 : FVec Ideal S3x128x128 .f32) (x4 : FVec Ideal S384 .f32) (g : Fin 3) (k : Fin 128) :
    atZero x2 x3 x4 (ix2 g k) = layer2Zero (fun k => x2 (ix1 ⟨128 * g.val + k.val, by omega⟩)) (fun k c => x3 (ix3 g k c))
      (fun k => x4 (ix1 ⟨128 * g.val + k.val, by omega⟩)) k := by
  unfold layer2Zero
  pointwise [atZero]
  simp only [mul_comm g.val 128]

/-- The region's seven operands, each the host's chain of array operations on the arguments. -/
theorem operands :
    r0 m c = shapeCast S16384x48 (a0 m c) shapeCasts_S16384x3x16_S16384x48
    ∧ r1 m c = truncf (F := Ideal) .bf16 (transpose S128x3 [1, 0] (shapeCast S3x128 (a1 m c) shapeCasts_S3x128x1_S3x128) transposes_S3x128_S128x3_1_0) bitsLt_bf16_f32
    ∧ r2 m c = truncf (F := Ideal) .bf16 (transpose S128x3 [1, 0] (shapeCast S3x128 (a2 m c) shapeCasts_S384_S3x128) transposes_S3x128_S128x3_1_0) bitsLt_bf16_f32
    ∧ r3 m c = truncf (F := Ideal) .bf16 (concatenate S3x128x129 2 [⟨S3x128x128, a3 m c⟩,
        ⟨S3x128x1, broadcastInDim S3x128x1 ![0, 1] bcast_S3x128_S3x128x1_0_1 (shapeCast S3x128 (a4 m c) shapeCasts_S384_S3x128)⟩] concatenates_S3x128x128_S3x128x1_S3x128x129_d2) bitsLt_bf16_f32
    ∧ r4 m c = truncf (F := Ideal) .bf16 (a5 m c) bitsLt_bf16_f32
    ∧ r5 m c = shapeCast S3x1 (subf (F := Ideal) (a6 m c) (Host.dotGeneral dot_S3x128_S3x3x128_S3_10_21_n_0_n_n none (atZero (a2 m c) (a3 m c) (a4 m c))
        (shapeCast S3x3x128 (a5 m c) shapeCasts_S3x384_S3x3x128))) shapeCasts_S3_S3x1
    ∧ r6 m c = transpose S3x3 [1, 0] (Host.dotGeneral (F := Ideal) dot_S3x3x128_S3x128_S3x3_2_1_0_n_1_0 none
        (shapeCast S3x3x128 (a5 m c) shapeCasts_S3x384_S3x3x128) (atZero (a2 m c) (a3 m c) (a4 m c))) transposes_S3x3_S3x3_1_0 := by
  refine ⟨?_, ?_, ?_, ?_, ?_, ?_, ?_⟩ <;>
  · show StableHlo.after hostOps _ (Proc.devRef .tc _) = _
    simp only [hostOps, hostOps0, hostOps0_1, hostOps0_2, hostOps0_3, hostOps0_4, List.append_nil, List.cons_append, List.nil_append,
      StableHlo.TRef.binary, StableHlo.TRef.nullary, StableHlo.TRef.unary, StableHlo.TRef.toBuf, StableHlo.TRef.ofBuf, cast_eq]
    after_results <;> rfl

/-- The first operand: the input, its three groups side by side in a row. -/
theorem r0_apply (B : Fin 16384) (g : Fin 3) (l : Fin 16) (h : 16 * g.val + l.val < 48) :
    r0 m c (ix2 B ⟨16 * g.val + l.val, h⟩) = a0 m c (ix3 B g l) := by
  rw [(operands m c).1]
  generalize a0 m c = x
  pointwise

/-- The second operand: the first layer's weights, a column per group. -/
theorem r1_apply (k : Fin 128) (g : Fin 3) : r1 m c (ix2 k g) = a1 m c (ix3 g k 0) := by
  rw [(operands m c).2.1]
  generalize a1 m c = x
  pointwise

/-- The third operand: the first layer's biases, a column per group. -/
theorem r2_apply (k : Fin 128) (g : Fin 3) : r2 m c (ix2 k g) = a2 m c (ix1 ⟨128 * g.val + k.val, by omega⟩) := by
  rw [(operands m c).2.2.1]
  generalize a2 m c = x
  pointwise
  simp only [mul_comm g.val 128]

/-- The fourth operand: the second layer's weights, in its first 128 columns. -/
theorem r3_weight (g : Fin 3) (k c' : Fin 128) : r3 m c (ix3 g k ⟨c'.val, by omega⟩) = a3 m c (ix3 g k c') := by
  rw [(operands m c).2.2.2.1]
  generalize a3 m c = x
  generalize a4 m c = y
  pointwise

/-- The fourth operand: the second layer's biases, in its last column. -/
theorem r3_bias (g : Fin 3) (k : Fin 128) : r3 m c (ix3 g k 128) = a4 m c (ix1 ⟨128 * g.val + k.val, by omega⟩) := by
  rw [(operands m c).2.2.2.1]
  generalize a3 m c = x
  generalize a4 m c = y
  pointwise
  simp only [mul_comm g.val 128]

/-- The fifth operand: the output weights. -/
theorem r4_apply (o : Fin 3) (s : Fin 384) : r4 m c (ix2 o s) = a5 m c (ix2 o s) := by
  rw [(operands m c).2.2.2.2.1]
  rfl

/-- The sixth operand: the output bias less the three groups' constants. -/
theorem r5_apply (o : Fin 3) : r5 m c (ix2 o 0) = a6 m c (ix1 o)
    - ∑ g : Fin 3, ∑ k : Fin 128, atZero (a2 m c) (a3 m c) (a4 m c) (ix2 g k) * a5 m c (ix2 o ⟨128 * g.val + k.val, by omega⟩) := by
  rw [(operands m c).2.2.2.2.2.1]
  generalize atZero (a2 m c) (a3 m c) (a4 m c) = z
  generalize a5 m c = x
  generalize a6 m c = y
  pointwise
  rw [Finset.sum_comm]
  simp only [fun g : Fin 3 => mul_comm g.val 128]

/-- The seventh operand: the constant of group `g` in output `o`. -/
theorem r6_apply (o g : Fin 3) : r6 m c (ix2 o g)
    = ∑ k : Fin 128, a5 m c (ix2 o ⟨128 * g.val + k.val, by omega⟩) * atZero (a2 m c) (a3 m c) (a4 m c) (ix2 g k) := by
  rw [(operands m c).2.2.2.2.2.2]
  generalize atZero (a2 m c) (a3 m c) (a4 m c) = z
  generalize a5 m c = x
  pointwise
  simp only [mul_comm g.val 128]

end Cert.KernelIdeal.Host

end
-- ==== Proof.Payload.lean ====
module

public import proofs.«01_k».proof.Proof.Gen.KernelIdeal.Skeleton
public import proofs.«01_k».proof.Proof.Spec
public import Idealize.ShloMosaic.Lib.Pipeline.Value
public import Idealize.ShloMosaic.Lib.Pointwise
public import Idealize.ShloMosaic.Lib.Tactic

@[expose] public section

noncomputable section

namespace Cert.KernelIdeal.Payload

open Idealize.ShloMosaic Idealize.ShloMosaic.TcCoe Idealize.ShloMosaic.Pointwise
open Cert.KernelIdeal Cert.KernelIdeal.Gen Cert.Spec
open scoped BigOperators

/- The body's payloads, each read at an index of variables: at the extended reals a cast is the identity, a product of
   matrices is the sum over the contracted position, and a concatenation is read at the piece its coordinate names. -/

variable {F : FTy → Type} [FloatOps F]

/-- The rows of a `[16, 1024]` array laid end to end in one row. -/
def rows (v : FVec F S16x1024 .f32) (hs : ∀ l : Fin 16, S16x1024.Slices ![l.val, 0] S1x1024)
    (hc : Shape.Concatenates ((List.ofFn fun l : Fin 16 => (⟨S1x1024, extractStridedSlice S1x1024 ![l.val, 0] v (hs l)⟩ : (s : Shape) × (s.Idx → F .f32))).map (·.1)) S1x16384 1) :
    FVec F S1x16384 .f32 :=
  concatenate S1x16384 1 (List.ofFn fun l : Fin 16 => ⟨S1x1024, extractStridedSlice S1x1024 ![l.val, 0] v (hs l)⟩) hc

/-- The laid-out row at position `1024 l + b` is the array at `(l, b)`. -/
theorem rows_apply (v : FVec F S16x1024 .f32) (hs hc) (n : Fin 16384) :
    rows v hs hc (ix2 0 n) = v (ix2 ⟨n.val / 1024, by omega⟩ ⟨n.val % 1024, by omega⟩) := by
  unfold rows
  rw [concatenate_ofFn_apply 1 (s₁ := S1x1024) (fun l : Fin 16 => extractStridedSlice S1x1024 ![l.val, 0] v (hs l)) hc rfl 1024 rfl (ix2 0 n)
    ⟨n.val / 1024, by omega⟩ rfl (ix2 0 ⟨n.val % 1024, by omega⟩) rfl (fun b hb => by
      match b with
      | ⟨0, _⟩ => rfl
      | ⟨1, _⟩ => exact absurd rfl hb)]
  exact extractStridedSlice_apply _ _ _ _ _ fun a => by
    match a with
    | ⟨0, _⟩ => show n.val / 1024 = n.val / 1024 + 0; rfl
    | ⟨1, _⟩ => show n.val % 1024 = 0 + n.val % 1024; omega

/-- Each of the sixteen row slices fits. -/
theorem hrows (l : Fin 16) : S16x1024.Slices ![l.val, 0] S1x1024 := by
  refine ⟨rfl, fun a => ?_⟩
  match a with
  | ⟨0, _⟩ => show l.val + 1 ≤ 16; omega
  | ⟨1, _⟩ => show 0 + 1024 ≤ 1024; omega

/-- A row that is such a layout, read at a position. -/
theorem rows_of {y : FVec F S1x16384 .f32} (v : FVec F S16x1024 .f32) (hc) (h : y = rows v hrows hc) (n : Fin 16384) :
    y (ix2 0 n) = v (ix2 ⟨n.val / 1024, by omega⟩ ⟨n.val % 1024, by omega⟩) := by
  subst h; exact rows_apply v hrows hc n

/-- The first group's row of inputs, lane after lane: position `1024 l + b` is batch row `b`, column `l`. -/
theorem pay3_apply (x : FVec Ideal S1024x48 .f32) (n : Fin 16384) :
    k0_pay3 x (ix2 0 n) = x (ix2 ⟨n.val % 1024, by omega⟩ ⟨n.val / 1024, by omega⟩) := by
  refine (rows_of (transpose S16x1024 [1, 0] (extractStridedSlice S1024x16 ![0, 0] (k0_pay2 (F := Ideal) x) slices_S1024x48_o0_0_S1024x16)
    transposes_S1024x16_p1_0_S16x1024) (by exact concatenates_S1x1024_S1x1024_S1x1024_S1x1024_S1x1024_S1x1024_S1x1024_S1x1024_S1x1024_S1x1024_S1x1024_S1x1024_S1x1024_S1x1024_S1x1024_S1x1024_S1x16384_d1) (by rfl) n).trans ?_
  pointwise [k0_pay2]

/-- The second group's row of inputs: columns `16` to `31`. -/
theorem pay4_apply (x : FVec Ideal S1024x48 .f32) (n : Fin 16384) :
    k0_pay4 x (ix2 0 n) = x (ix2 ⟨n.val % 1024, by omega⟩ ⟨16 + n.val / 1024, by omega⟩) := by
  refine (rows_of (transpose S16x1024 [1, 0] (extractStridedSlice S1024x16 ![0, 16] (k0_pay2 (F := Ideal) x) slices_S1024x48_o0_16_S1024x16)
    transposes_S1024x16_p1_0_S16x1024) (by exact concatenates_S1x1024_S1x1024_S1x1024_S1x1024_S1x1024_S1x1024_S1x1024_S1x1024_S1x1024_S1x1024_S1x1024_S1x1024_S1x1024_S1x1024_S1x1024_S1x1024_S1x16384_d1) (by rfl) n).trans ?_
  pointwise [k0_pay2]

/-- The third group's row as the run writes it: its sixteen slices named one by one. -/
abbrev third (x : FVec F S1024x48 .f32) : FVec F S1x16384 .f32 :=
  k0_pay21 (k0_pay5 x) (k0_pay6 x) (k0_pay7 x) (k0_pay8 x) (k0_pay9 x) (k0_pay10 x) (k0_pay11 x) (k0_pay12 x) (k0_pay13 x)
    (k0_pay14 x) (k0_pay15 x) (k0_pay16 x) (k0_pay17 x) (k0_pay18 x) (k0_pay19 x) (k0_pay20 x)

/-- The third group's row of inputs: columns `32` to `47`. -/
theorem third_apply (x : FVec Ideal S1024x48 .f32) (n : Fin 16384) :
    third x (ix2 0 n) = x (ix2 ⟨n.val % 1024, by omega⟩ ⟨32 + n.val / 1024, by omega⟩) := by
  refine (rows_of (k0_pay5 (F := Ideal) x) (by exact concatenates_S1x1024_S1x1024_S1x1024_S1x1024_S1x1024_S1x1024_S1x1024_S1x1024_S1x1024_S1x1024_S1x1024_S1x1024_S1x1024_S1x1024_S1x1024_S1x1024_S1x16384_d1) (by rfl) n).trans ?_
  pointwise [k0_pay5, k0_pay2]

/-- The scale row: the reciprocal of the cube of the three groups' sum plus a tenth. -/
theorem pay22_apply (x : FVec Ideal S1024x48 .f32) (a b : FVec Ideal S1x16384 .f32) (n : Fin 16384) :
    k0_pay22 a b (k0_pay5 x) (k0_pay6 x) (k0_pay7 x) (k0_pay8 x) (k0_pay9 x) (k0_pay10 x) (k0_pay11 x) (k0_pay12 x) (k0_pay13 x)
      (k0_pay14 x) (k0_pay15 x) (k0_pay16 x) (k0_pay17 x) (k0_pay18 x) (k0_pay19 x) (k0_pay20 x) (ix2 0 n)
      = scale (a (ix2 0 n) + b (ix2 0 n) + third x (ix2 0 n)) := by
  unfold scale
  pointwise [k0_pay22]

/-- The mask as the body computes it: the comparison's bit, widened and converted. -/
theorem mask_of_bit (x : EReal) :
    (FloatOps.sitofp (F := Ideal) .f32 (BitVec.setWidth 32 (BitVec.ofBool (decide (eps < x)))) : EReal) = mask eps x := by
  by_cases h : eps < x
  · simp [mask, h, FloatOps.sitofp]
  · simp [mask, h, FloatOps.sitofp]

/-- The first group's masked constant. -/
theorem pay24_apply (v : FVec Ideal S1x16384 .f32) (p : FVec Ideal S3x1 .f32) (o : Fin 3) (n : Fin 16384) :
    k0_pay24 v p (ix2 o n) = 0 + p (ix2 o 0) * mask eps (v (ix2 0 n)) := by
  rw [← mask_of_bit, zero_add]
  pointwise [k0_pay24]

/-- The second group's masked constant, added on. -/
theorem pay27_apply (v : FVec Ideal S1x16384 .f32) (c : FVec Ideal S3x16384 .f32) (p : FVec Ideal S3x1 .f32) (o : Fin 3) (n : Fin 16384) :
    k0_pay27 v c p (ix2 o n) = c (ix2 o n) + p (ix2 o 0) * mask eps (v (ix2 0 n)) := by
  rw [← mask_of_bit]
  pointwise [k0_pay27]

/-- The third group's mask. -/
theorem pay29_apply (v : FVec Ideal S1x16384 .f32) (n : Fin 16384) : k0_pay29 v (ix2 0 n) = mask eps (v (ix2 0 n)) := by
  rw [← mask_of_bit]
  pointwise [k0_pay29]

/-- A group's hidden units: the last of the `129` contracted positions carries the second bias. -/
theorem pay25_apply (v : FVec Ideal S1x16384 .f32) (w b : FVec Ideal S128x1 .bf16) (W : FVec Ideal S1x128x129 .bf16) (k : Fin 128) (n : Fin 16384) :
    k0_pay25 v w b W (ix2 k n)
      = layer2 (fun c => w (ix2 c 0)) (fun c => b (ix2 c 0)) (fun k c => W (ix3 0 k ⟨c.val, by omega⟩)) (fun k => W (ix3 0 k 128)) (v (ix2 0 n)) k := by
  unfold layer2
  pointwise [k0_pay25, k0_pay23]
  rw [Fin.sum_univ_one]

/-- The second group's hidden units are the first's function of its own operands. -/
theorem pay28_eq (v : FVec F S1x16384 .f32) (w b : FVec F S128x1 .bf16) (W : FVec F S1x128x129 .bf16) :
    k0_pay28 v k0_pay23 w b W = k0_pay26 (k0_pay25 v w b W) := rfl

/-- The third group's hidden units likewise. -/
theorem pay30_eq (v : FVec F S1x16384 .f32) (w b : FVec F S128x1 .bf16) (W : FVec F S1x128x129 .bf16) :
    k0_pay30 v k0_pay23 w b W = k0_pay26 (k0_pay25 v w b W) := rfl

/-- Storing the hidden units stores them as they are. -/
theorem pay26_eq (h : FVec F S128x16384 .bf16) : k0_pay26 h = h := shapeCast_self _ _

/-- The outputs, one row per output: the hyperbolic tangent of the logit, scaled. -/
theorem pay31_apply (r : FVec Ideal S1x16384 .f32) (c : FVec Ideal S3x16384 .f32) (m : FVec Ideal S1x16384 .f32) (p : FVec Ideal S3x1 .f32)
    (w : FVec Ideal S3x384 .bf16) (H : FVec Ideal S384x16384 .bf16) (q : FVec Ideal S3x1 .f32) (o : Fin 3) (n : Fin 16384) :
    k0_pay31 r c m p w H q (ix2 o n)
      = Ideal.tanh ((∑ s, w (ix2 o s) * H (ix2 s n)) + q (ix2 o 0) + (c (ix2 o n) + p (ix2 o 0) * m (ix2 0 n))) * r (ix2 0 n) := by
  pointwise [k0_pay31]

/-- Each of the `48` slices of the output rows fits. -/
theorem hcols (q : Fin 48) : S3x16384.Slices ![q.val / 16, q.val % 16 * 1024] S1x1024 := by
  refine ⟨rfl, fun a => ?_⟩
  match a with
  | ⟨0, _⟩ => show q.val / 16 + 1 ≤ 3; omega
  | ⟨1, _⟩ => show q.val % 16 * 1024 + 1024 ≤ 16384; omega

/-- The `48` slices of the output rows stacked, slice `16 o + l` being lane `l` of output `o`. -/
def stacked (v : FVec F S3x16384 .f32)
    (hc : Shape.Concatenates ((List.ofFn fun q : Fin 48 => (⟨S1x1024, extractStridedSlice S1x1024 ![q.val / 16, q.val % 16 * 1024] v (hcols q)⟩ : (s : Shape) × (s.Idx → F .f32))).map (·.1)) S48x1024 0) :
    FVec F S48x1024 .f32 :=
  concatenate S48x1024 0 (List.ofFn fun q : Fin 48 => ⟨S1x1024, extractStridedSlice S1x1024 ![q.val / 16, q.val % 16 * 1024] v (hcols q)⟩) hc

/-- The stack at `(16 o + l, b)` is output `o` at position `1024 l + b`. -/
theorem stacked_apply (v : FVec F S3x16384 .f32) (hc) (q : Fin 48) (b : Fin 1024) :
    stacked v hc (ix2 q b) = v (ix2 ⟨q.val / 16, by omega⟩ ⟨q.val % 16 * 1024 + b.val, by omega⟩) := by
  unfold stacked
  rw [concatenate_ofFn_unit_apply 0 (s₁ := S1x1024) (fun q : Fin 48 => extractStridedSlice S1x1024 ![q.val / 16, q.val % 16 * 1024] v (hcols q)) hc rfl rfl
    (ix2 q b) q rfl (ix2 0 b) (fun a ha => by
      match a with
      | ⟨0, _⟩ => exact absurd rfl ha
      | ⟨1, _⟩ => rfl)]
  exact extractStridedSlice_apply _ _ _ _ _ fun a => by
    match a with
    | ⟨0, _⟩ => rfl
    | ⟨1, _⟩ => rfl

/-- The stored block: batch row `b`, column `16 o + l`. -/
theorem pay1_apply (v : FVec F S3x16384 .f32) (b : Fin 1024) (q : Fin 48) :
    k0_pay1 v (extractStridedSlice S1x1024 ![0, 0] v slices_S3x16384_o0_0_S1x1024) (ix2 b q)
      = v (ix2 ⟨q.val / 16, by omega⟩ ⟨q.val % 16 * 1024 + b.val, by omega⟩) := by
  refine Eq.trans (Idealize.ShloMosaic.transpose_apply [1, 0] (stacked v _) transposes_S48x1024_p1_0_S1024x48 (ix2 b q) (ix2 q b)
    fun c => match c with | ⟨0, _⟩ => rfl | ⟨1, _⟩ => rfl) (stacked_apply v (by exact concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S48x1024_d0) q b)

end Cert.KernelIdeal.Payload

end
-- ==== Proof.Block.lean ====
module

public import proofs.«01_k».proof.Proof.Gen.KernelIdeal.Frame
public import proofs.«01_k».proof.Proof.Payload
public import Idealize.ShloMosaic.Lib.Pipeline.Value
public import Idealize.ShloMosaic.Lib.Tactic

@[expose] public section

noncomputable section

namespace Cert.KernelIdeal.Block

open Idealize.ShloMosaic Idealize.ShloMosaic.TcCoe Idealize.SL.Sem
open Cert.KernelIdeal Cert.KernelIdeal.Gen Cert.KernelIdeal.Payload Cert.Spec Idealize.ShloMosaic.Pointwise
open scoped BigOperators

variable {F : FTy → Type} [FloatOps F]

/-- A two-axis rectangle at the origin is the whole array. -/
theorem zero2 : (![0, 0] : Fin 2 → Nat) = fun _ => 0 := funext fun a => by fin_cases a <;> rfl

/-- A load of column `g` of a `[128, 3]` block. -/
abbrev col (g : Nat) (h : ∀ a, (![0, g] : Fin 2 → Nat) a + (![128, 1] : Fin 2 → Nat) a ≤ S128x3.size a) (w : FVec F S128x3 .bf16) : FVec F S128x1 .bf16 :=
  View.ld (Val := Elt F) (e' := .bf16) (S := S128x3) w (Rect.unit (s := S128x3) ![0, g] ![128, 1] h)

/-- A load of slab `g` of the `[3, 128, 129]` block. -/
abbrev slab (g : Nat) (h : ∀ a, (![g, 0, 0] : Fin 3 → Nat) a + (![1, 128, 129] : Fin 3 → Nat) a ≤ S3x128x129.size a) (W : FVec F S3x128x129 .bf16) :
    FVec F S1x128x129 .bf16 :=
  View.ld (Val := Elt F) (e' := .bf16) (S := S3x128x129) W (Rect.unit (s := S3x128x129) ![g, 0, 0] ![1, 128, 129] h)

/-- The input of group `g` in batch row `b` and lane `l` of a block. -/
def lane (x : FVec Ideal S1024x48 .f32) (b : Fin 1024) (l : Fin 16) (g : Fin 3) : EReal := x (ix2 b ⟨16 * g.val + l.val, by omega⟩)

/-- Hidden unit `k` of group `g` at a scalar input, from the blocks the body loads. -/
def hid (w b : FVec Ideal S128x3 .bf16) (W : FVec Ideal S3x128x129 .bf16) (g : Fin 3) (k : Fin 128) (x : EReal) : EReal :=
  layer2 (fun c => w (ix2 c g)) (fun c => b (ix2 c g)) (fun k c => W (ix3 g k ⟨c.val, by omega⟩)) (fun k => W (ix3 g k 128)) x k

/-- What the scratch holds once the three groups' hidden units are stored: row `128 g + k`, position `1024 l + b`. -/
def scratch (x : FVec Ideal S1024x48 .f32) (w b : FVec Ideal S128x3 .bf16) (W : FVec Ideal S3x128x129 .bf16) : FVec Ideal S384x16384 .bf16 :=
  fun j => hid w b W ⟨(j 0).val / 128, by have : (j 0).val < 384 := (j 0).isLt; omega⟩ ⟨(j 0).val % 128, by omega⟩
    (lane x ⟨(j 1).val % 1024, by omega⟩ ⟨(j 1).val / 1024, by have : (j 1).val < 16384 := (j 1).isLt; omega⟩
      ⟨(j 0).val / 128, by have : (j 0).val < 384 := (j 0).isLt; omega⟩)

/-- The scratch at row `128 g + k` and position `n`. -/
theorem scratch_apply (x : FVec Ideal S1024x48 .f32) (w b : FVec Ideal S128x3 .bf16) (W : FVec Ideal S3x128x129 .bf16) (j : S384x16384.Idx)
    (g : Fin 3) (k : Fin 128) (n : Fin 16384) (h0 : (j 0).val = 128 * g.val + k.val) (h1 : (j 1).val = n.val) :
    scratch x w b W j = hid w b W g k (lane x ⟨n.val % 1024, by omega⟩ ⟨n.val / 1024, by omega⟩ g) := by
  have e0 : (⟨(j 0).val / 128, by omega⟩ : Fin 3) = g := Fin.ext (by dsimp only; omega)
  have e1 : (⟨(j 0).val % 128, by omega⟩ : Fin 128) = k := Fin.ext (by dsimp only; omega)
  have e2 : (⟨(j 1).val % 1024, by omega⟩ : Fin 1024) = ⟨n.val % 1024, by omega⟩ := Fin.ext (by dsimp only; omega)
  have e3 : (⟨(j 1).val / 1024, by omega⟩ : Fin 16) = ⟨n.val / 1024, by omega⟩ := Fin.ext (by dsimp only; omega)
  unfold scratch
  rw [e0, e1, e2, e3]

/-- The same, at a written index. -/
theorem scratch_ix (x : FVec Ideal S1024x48 .f32) (w b : FVec Ideal S128x3 .bf16) (W : FVec Ideal S3x128x129 .bf16)
    (g : Fin 3) (k : Fin 128) (n : Fin 16384) (h : 128 * g.val + k.val < 384) :
    scratch x w b W (ix2 ⟨128 * g.val + k.val, h⟩ n) = hid w b W g k (lane x ⟨n.val % 1024, by omega⟩ ⟨n.val / 1024, by omega⟩ g) :=
  scratch_apply x w b W _ g k n rfl rfl

/-- A load of column `g` of the groups' constants. -/
abbrev ccol (g : Nat) (h : ∀ a, (![0, g] : Fin 2 → Nat) a + (![3, 1] : Fin 2 → Nat) a ≤ S3x3.size a) (w : FVec F S3x3 .f32) : FVec F S3x1 .f32 :=
  View.ld (Val := Elt F) (e' := .f32) (S := S3x3) w (Rect.unit (s := S3x3) ![0, g] ![3, 1] h)

/-- That load, at an index: the constant of group `g` in output `o`. -/
theorem ccol_apply (g : Fin 3) (h) (w : FVec Ideal S3x3 .f32) (o : Fin 3) : ccol g.val h w (ix2 o 0) = w (ix2 o g) := by
  pointwise [ccol]

/-- The stored block at batch row `b` and column `16 o + l`, from the seven blocks the body loads. -/
def blockAt (x0 : FVec Ideal S1024x48 .f32) (x1 x2 : FVec Ideal S128x3 .bf16) (x3 : FVec Ideal S3x128x129 .bf16)
    (x4 : FVec Ideal S3x384 .bf16) (x5 : FVec Ideal S3x1 .f32) (x6 : FVec Ideal S3x3 .f32) (b : Fin 1024) (o : Fin 3) (l : Fin 16) : EReal :=
  Ideal.tanh ((∑ g : Fin 3, ∑ k : Fin 128, x4 (ix2 o ⟨128 * g.val + k.val, by omega⟩) * hid x1 x2 x3 g k (lane x0 b l g)) + x5 (ix2 o 0)
      + (((0 + x6 (ix2 o 0) * mask eps (lane x0 b l 0)) + x6 (ix2 o 1) * mask eps (lane x0 b l 1)) + x6 (ix2 o 2) * mask eps (lane x0 b l 2)))
    * scale (lane x0 b l 0 + lane x0 b l 1 + lane x0 b l 2)

/-- The first group's row is its inputs. -/
theorem first_lane (x : FVec Ideal S1024x48 .f32) (n : Fin 16384) :
    k0_pay3 (F := Ideal) x (ix2 0 n) = lane x ⟨n.val % 1024, by omega⟩ ⟨n.val / 1024, by omega⟩ 0 :=
  (pay3_apply x n).trans (congrArg x (congrArg (ix2 _) (Fin.ext (by show n.val / 1024 = 16 * 0 + n.val / 1024; omega))))

/-- The second group's row is its inputs. -/
theorem second_lane (x : FVec Ideal S1024x48 .f32) (n : Fin 16384) :
    k0_pay4 (F := Ideal) x (ix2 0 n) = lane x ⟨n.val % 1024, by omega⟩ ⟨n.val / 1024, by omega⟩ 1 := pay4_apply x n

/-- The third group's row is its inputs. -/
theorem third_lane (x : FVec Ideal S1024x48 .f32) (n : Fin 16384) :
    third (F := Ideal) x (ix2 0 n) = lane x ⟨n.val % 1024, by omega⟩ ⟨n.val / 1024, by omega⟩ 2 := third_apply x n

/-- The hidden units computed from column `g` of the weights and slab `g` of the second layer are group `g`'s. -/
theorem pay25_hid (w b : FVec Ideal S128x3 .bf16) (W : FVec Ideal S3x128x129 .bf16) (v : FVec Ideal S1x16384 .f32) (g : Fin 3)
    (hw hW)
    (k : Fin 128) (n : Fin 16384) :
    k0_pay25 v (col g.val hw w) (col g.val hw b)
      (slab g.val hW W) (ix2 k n) = hid w b W g k (v (ix2 0 n)) := by
  rw [pay25_apply]
  unfold hid
  congr 1
  · funext c; pointwise [col]
  · funext c; pointwise [col]
  · funext k c; pointwise [slab]
  · funext k; pointwise [slab]

/-- The scratch read back whole after its three stores, in the run's own words. -/
theorem scratch_read (v : View sig .tc .vmem S384x16384 .bf16) (x : FVec Ideal S1024x48 .f32) (w b : FVec Ideal S128x3 .bf16) (W : FVec Ideal S3x128x129 .bf16) :
    v.readCov (Val := Elt Ideal)
      [⟨Rect.unit ![256, 0] ![128, 16384] inb_S384x16384_S128x16384_256_0,
          k0_pay30 (F := Ideal) (third (F := Ideal) x) k0_pay23 (col 2 inb_S128x3_S128x1_0_2 w)
            (col 2 inb_S128x3_S128x1_0_2 b)
            (slab 2 inb_S3x128x129_S1x128x129_2_0_0 W)⟩,
        ⟨Rect.unit ![128, 0] ![128, 16384] inb_S384x16384_S128x16384_128_0,
          k0_pay28 (F := Ideal) (k0_pay4 (F := Ideal) x) k0_pay23 (col 1 inb_S128x3_S128x1_0_1 w)
            (col 1 inb_S128x3_S128x1_0_1 b)
            (slab 1 inb_S3x128x129_S1x128x129_1_0_0 W)⟩,
        ⟨Rect.unit ![0, 0] ![128, 16384] inb_S384x16384_S128x16384_0_0,
          k0_pay26 (F := Ideal) (k0_pay25 (F := Ideal) (k0_pay3 (F := Ideal) x) (col 0 inb_S128x3_S128x1_0_0 w)
            (col 0 inb_S128x3_S128x1_0_0 b)
            (slab 0 inb_S3x128x129_S1x128x129_0_0_0 W))⟩]
      (Rect.unit ![0, 0] ![384, 16384] inb_S384x16384_S384x16384_0_0).toLoadRect = scratch x w b W := by
  have hpiece : ∀ (g : Fin 3) (h) (r : FVec Ideal S1x16384 .f32)
      (hr : ∀ n : Fin 16384, r (ix2 0 n) = lane x ⟨n.val % 1024, by omega⟩ ⟨n.val / 1024, by omega⟩ g)
      (p : FVec Ideal S128x16384 .bf16) (hp : ∀ k n, p (ix2 k n) = hid w b W g k (r (ix2 0 n))) (y : S128x16384.Idx),
      p y = scratch x w b W ((Rect.unit (s := S384x16384) ![128 * g.val, 0] ![128, 16384] h).emb y) := by
    intro g h r hr p hp y
    obtain ⟨k, n, rfl⟩ : ∃ k n, y = ix2 k n := ⟨y 0, y 1, eq_ix2 y⟩
    rw [hp, hr]
    exact (scratch_apply x w b W _ g k n (by show 128 * g.val + 1 * k.val = _; omega) (by show 0 + 1 * n.val = _; omega)).symm
  have hcov : ∀ (g : Fin 3) (h) (y : S384x16384.Idx), (y 0).val / 128 = g.val →
      y ∈ (Rect.unit (s := S384x16384) ![128 * g.val, 0] ![128, 16384] h).set := by
    intro g h y hy
    rw [Rect.mem_set_unit]
    have h0 : (y 0).val < 384 := (y 0).isLt
    have h1 : (y 1).val < 16384 := (y 1).isLt
    intro a
    match a with
    | ⟨0, _⟩ => show 128 * g.val ≤ (y 0).val ∧ (y 0).val < 128 * g.val + 128; omega
    | ⟨1, _⟩ => show 0 ≤ (y 1).val ∧ (y 1).val < 0 + 16384; omega
  have hall : ∀ y : S384x16384.Idx, (y 0).val / 128 = 0 ∨ (y 0).val / 128 = 1 ∨ (y 0).val / 128 = 2 := fun y => by
    have h0 : (y 0).val < 384 := (y 0).isLt
    omega
  have hcover : ∀ (A B C : FVec Ideal S128x16384 .bf16) (y : S384x16384.Idx),
      ∃ p ∈ ([⟨Rect.unit ![256, 0] ![128, 16384] inb_S384x16384_S128x16384_256_0, A⟩, ⟨Rect.unit ![128, 0] ![128, 16384] inb_S384x16384_S128x16384_128_0, B⟩,
        ⟨Rect.unit ![0, 0] ![128, 16384] inb_S384x16384_S128x16384_0_0, C⟩] : List (View.Piece (Elt Ideal) S384x16384 .bf16)), y ∈ p.1.set := by
    intro A B C y
    rcases hall y with h | h | h
    · exact ⟨_, List.mem_cons_of_mem _ (List.mem_cons_of_mem _ List.mem_cons_self), hcov 0 inb_S384x16384_S128x16384_0_0 y h⟩
    · exact ⟨_, List.mem_cons_of_mem _ List.mem_cons_self, hcov 1 inb_S384x16384_S128x16384_128_0 y h⟩
    · exact ⟨_, List.mem_cons_self, hcov 2 inb_S384x16384_S128x16384_256_0 y h⟩
  rw [View.readCov_eq_canon_ld _ _ _ (hcover _ _ _), View.ld_unit_zero (S := S384x16384) zero2]
  funext y
  refine View.canon_apply_of_pieces (scratch x w b W) _ (fun p hp => ?_) y (hcover _ _ _ y)
  rcases List.mem_cons.mp hp with rfl | hp
  · exact hpiece 2 inb_S384x16384_S128x16384_256_0 _ (third_lane x) _ fun k n => by rw [pay30_eq, pay26_eq]; exact pay25_hid w b W _ 2 _ _ k n
  rcases List.mem_cons.mp hp with rfl | hp
  · exact hpiece 1 inb_S384x16384_S128x16384_128_0 _ (second_lane x) _ fun k n => by rw [pay28_eq, pay26_eq]; exact pay25_hid w b W _ 1 _ _ k n
  obtain rfl := List.mem_singleton.mp hp
  intro y
  exact hpiece 0 inb_S384x16384_S128x16384_0_0 _ (first_lane x) _ (fun k n => by rw [pay26_eq]; exact pay25_hid w b W _ 0 _ _ k n) y

/-- THE BLOCK: what the body leaves in the output's staging buffer, at batch row `b` and column `16 o + l`. -/
theorem out_A (c : Dev nD) (i : grid0.Coords) (a1 : Memref sig .tc .vmem S1024x48 .f32) (h1 : a1.IsWhole)
    (a2 : Memref sig .tc .vmem S128x3 .bf16) (h2 : a2.IsWhole) (a3 : Memref sig .tc .vmem S128x3 .bf16) (h3 : a3.IsWhole)
    (a4 : Memref sig .tc .vmem S3x128x129 .bf16) (h4 : a4.IsWhole) (a5 : Memref sig .tc .vmem S3x384 .bf16) (h5 : a5.IsWhole)
    (a6 : Memref sig .tc .vmem S3x1 .f32) (h6 : a6.IsWhole) (a7 : Memref sig .tc .vmem S3x3 .f32) (h7 : a7.IsWhole)
    (a8 : Memref sig .tc .vmem S1024x48 .f32) (h8 : a8.IsWhole) (a9 : Memref sig .tc .vmem S384x16384 .bf16) (h9 : a9.IsWhole)
    (x0 : Vec Ideal S1024x48 .f32) (x1 : Vec Ideal S128x3 .bf16) (x2 : Vec Ideal S128x3 .bf16) (x3 : Vec Ideal S3x128x129 .bf16)
    (x4 : Vec Ideal S3x384 .bf16) (x5 : Vec Ideal S3x1 .f32) (x6 : Vec Ideal S3x3 .f32) (b : Fin 1024) (q : Fin 48) :
    out0_A_7 c i a1 h1 a2 h2 a3 h3 a4 h4 a5 h5 a6 h6 a7 h7 a8 h8 a9 h9 x0 x1 x2 x3 x4 x5 x6 (ix2 b q)
      = blockAt x0 x1 x2 x3 x4 x5 x6 b ⟨q.val / 16, by omega⟩ ⟨q.val % 16, by omega⟩ := by
  unfold out0_A_7
  rw [View.read_writes_eq_canon _ _ _ (cover0_A_7 c i a1 h1 a2 h2 a3 h3 a4 h4 a5 h5 a6 h6 a7 h7 a8 h8 a9 h9 x0 x1 x2 x3 x4 x5 x6)]
  unfold kernelRun0_A
  dsimp only
  sl_unfold_words
  rw [View.canon_unit_zero zero2]
  simp only [View.readAt_eq_ld, h1.read_unread, h2.read_unread, h3.read_unread, h4.read_unread, h5.read_unread, h6.read_unread, h7.read_unread,
    View.ld_unit_zero (S := S1024x48) zero2, View.ld_unit_zero (S := S3x384) zero2, View.ld_unit_zero (S := S3x1) zero2]
  refine (pay1_apply (F := Ideal) _ b q).trans ?_
  rw [pay31_apply, pay22_apply, pay27_apply, pay24_apply, pay29_apply, scratch_read, third_lane, first_lane, second_lane, sum_384]
  simp only [scratch_ix]
  have eb : ∀ h, (⟨(q.val % 16 * 1024 + b.val) % 1024, h⟩ : Fin 1024) = b := fun h => Fin.ext (by dsimp only; omega)
  have el : ∀ h, (⟨(q.val % 16 * 1024 + b.val) / 1024, h⟩ : Fin 16) = ⟨q.val % 16, by omega⟩ := fun h => Fin.ext (by dsimp only; omega)
  simp only [eb, el]
  unfold blockAt
  rw [show View.ld x6 (Rect.unit ![0, 0] ![3, 1] inb_S3x3_S3x1_0_0) (ix2 _ 0) = _ from ccol_apply 0 _ x6 _,
    show View.ld x6 (Rect.unit ![0, 1] ![3, 1] inb_S3x3_S3x1_0_1) (ix2 _ 0) = _ from ccol_apply 1 _ x6 _,
    show View.ld x6 (Rect.unit ![0, 2] ![3, 1] inb_S3x3_S3x1_0_2) (ix2 _ 0) = _ from ccol_apply 2 _ x6 _]
  rw [show k0_pay21 (k0_pay5 x0) _ _ _ _ _ _ _ _ _ _ _ _ _ _ _ (ix2 0 _) = _ from third_lane x0 _]
  simp only [eb, el]

end Cert.KernelIdeal.Block

end
-- ==== Proof.Array.lean ====
module

public import proofs.«01_k».proof.Proof.Host
public import proofs.«01_k».proof.Proof.Block

/-! What the kernel's result array holds, at an index, in terms of the arguments. -/

@[expose] public section

noncomputable section

namespace Cert.KernelIdeal.Array

open Idealize.ShloMosaic Idealize.ShloMosaic.Pointwise Idealize.SL.Sem
open Cert.KernelIdeal Cert.KernelIdeal.Gen Cert.KernelIdeal.Host Cert.KernelIdeal.Block Cert.Spec

variable (m : (ℓ : Loc nD τ sig) → Buf (Elt Ideal) ℓ) (c : Dev nD)

/-- The hidden units of group `g` at an input, from the arguments. -/
def unit (g : Fin 3) (k : Fin 128) (x : EReal) : EReal :=
  layer2 (fun k => a1 m c (ix3 g k 0)) (fun k => a2 m c (ix1 ⟨128 * g.val + k.val, by omega⟩)) (fun k c' => a3 m c (ix3 g k c'))
    (fun k => a4 m c (ix1 ⟨128 * g.val + k.val, by omega⟩)) x k

/-- The hidden units of group `g` at the zero input, from the arguments. -/
def unitZero (g : Fin 3) (k : Fin 128) : EReal :=
  layer2Zero (fun k => a2 m c (ix1 ⟨128 * g.val + k.val, by omega⟩)) (fun k c' => a3 m c (ix3 g k c'))
    (fun k => a4 m c (ix1 ⟨128 * g.val + k.val, by omega⟩)) k

/-- The output weight of hidden unit `k` of group `g`. -/
def wout (o g : Fin 3) (k : Fin 128) : EReal := a5 m c (ix2 o ⟨128 * g.val + k.val, by omega⟩)

/-- The kernel's result at batch row `B`, output `o` and lane `l`, as the kernel sums it. -/
def kernelAt (B : Fin 16384) (o : Fin 3) (l : Fin 16) : EReal :=
  Ideal.tanh ((∑ g : Fin 3, ∑ k : Fin 128, wout m c o g k * unit m c g k (a0 m c (ix3 B g l)))
      + (a6 m c (ix1 o) - ∑ g : Fin 3, ∑ k : Fin 128, unitZero m c g k * wout m c o g k)
      + (((0 + (∑ k : Fin 128, wout m c o 0 k * unitZero m c 0 k) * mask eps (a0 m c (ix3 B 0 l)))
          + (∑ k : Fin 128, wout m c o 1 k * unitZero m c 1 k) * mask eps (a0 m c (ix3 B 1 l)))
          + (∑ k : Fin 128, wout m c o 2 k * unitZero m c 2 k) * mask eps (a0 m c (ix3 B 2 l))))
    * scale (a0 m c (ix3 B 0 l) + a0 m c (ix3 B 1 l) + a0 m c (ix3 B 2 l))

/-- The input's window is at block `t` of the rows, and so is the result's. -/
theorem index_t : ∀ t : Fin cfg0.N, win0_0.index t 0 = t.val ∧ win0_0.index t 1 = 0 ∧ win0_7.index t 0 = t.val ∧ win0_7.index t 1 = 0 :=
  (by decide +kernel : ∀ t : Fin grid0.N, win0_0.index t 0 = t.val ∧ win0_0.index t 1 = 0 ∧ win0_7.index t 0 = t.val ∧ win0_7.index t 1 = 0)

/-- Row `b` of the block of point `t` is a row of the array. -/
theorem row_lt (t : Fin cfg0.N) (b : Fin 1024) : 1024 * t.val + b.val < 16384 := by
  have : t.val < 16 := lt_of_lt_of_eq t.isLt N_0
  omega

/-- The input's block at point `t`: rows `1024 t` onwards. -/
theorem iblk0_apply (t : Fin cfg0.N) (b : Fin 1024) (q : Fin 48) : iblk m c 0 t (ix2 b q) = r0 m c (ix2 ⟨1024 * t.val + b.val, row_lt t b⟩ q) := by
  unfold iblk
  rw [View.read_apply]
  show V m c main_v0 _ = _
  congr 1
  funext a
  apply Fin.ext
  match a with
  | ⟨0, _⟩ => show win0_0.index t 0 * 1024 + 1 * b.val = 1024 * t.val + b.val; rw [(index_t t).1]; omega
  | ⟨1, _⟩ => show win0_0.index t 1 * 48 + 1 * q.val = q.val; rw [(index_t t).2.1]; omega

/-- The other six windows hold their whole arrays at every point. -/
theorem iblk_whole (t : Fin cfg0.N) : iblk m c 1 t = r1 m c ∧ iblk m c 2 t = r2 m c ∧ iblk m c 3 t = r3 m c
    ∧ iblk m c 4 t = r4 m c ∧ iblk m c 5 t = r5 m c ∧ iblk m c 6 t = r6 m c := by
  refine ⟨?_, ?_, ?_, ?_, ?_, ?_⟩ <;>
  exact Memref.read_access_unit_zero (Elt Ideal) _ (funext fun a => by fin_cases a <;> rfl) (fun a => by fin_cases a <;> exact le_refl _) _

/-- The block a point leaves, at an index. -/
theorem outsAt_apply (t : Fin cfg0.N) (b : Fin 1024) (q : Fin 48) :
    outsAt0 m c t (ix2 b q) = kernelAt m c ⟨1024 * t.val + b.val, row_lt t b⟩ ⟨q.val / 16, by omega⟩ ⟨q.val % 16, by omega⟩ := by
  unfold outsAt0
  rw [out_A]
  obtain ⟨e1, e2, e3, e4, e5, e6⟩ := iblk_whole m c t
  rw [e1, e2, e3, e4, e5, e6]
  generalize (⟨q.val / 16, _⟩ : Fin 3) = o
  generalize (⟨q.val % 16, _⟩ : Fin 16) = l
  unfold kernelAt unit unitZero wout
  simp only [blockAt, hid, lane, iblk0_apply, r0_apply, r1_apply, r2_apply, r3_weight, r3_bias, r4_apply, r5_apply, r6_apply, atZero_apply]

/-- The array the region leaves: a row of 48 is the three outputs' lanes side by side. -/
def flat : FVec Ideal S16384x48 .f32 := fun i => kernelAt m c (i 0) ⟨(i 1).val / 16, by have : (i 1).val < 48 := (i 1).isLt; omega⟩ ⟨(i 1).val % 16, by omega⟩

/-- Every point writes back its block of that array. -/
theorem flushed_eq (t : Fin cfg0.N) (hf : (cfg0.win 7).flush t = true) :
    (dats m 0 c).flushed 7 t = ((cfg0.win 7).blk t).view.read (Elt Ideal) (flat m c) := by
  show (cfg0.win 7).cut (grid0.coords t) ((dats m 0 c).after 7 t) = _
  rw [after0_7]
  funext j
  rw [View.read_apply]
  refine (congrArg (outsAt0 m c t) (eq_ix2 (f := j))).trans ((outsAt_apply m c t (j 0) (j 1)).trans ?_)
  show flat m c (ix2 ⟨1024 * t.val + (j 0).val, row_lt t (j 0)⟩ (j 1)) = _
  congr 1
  funext a
  apply Fin.ext
  match a with
  | ⟨0, _⟩ => show 1024 * t.val + (j 0).val = win0_7.index t 0 * 1024 + 1 * (j 0).val; rw [(index_t t).2.2.1]; omega
  | ⟨1, _⟩ => show (j 1).val = win0_7.index t 1 * 48 + 1 * (j 1).val; rw [(index_t t).2.2.2]; omega

/-- So the region's result array ends at it: the sixteen blocks cover the rows. -/
theorem final : (dats m 0 c).arrAt 7 cfg0.N = flat m c :=
  (dats m 0 c).arrAt_eq_of_cover 7 (flat m c) (flushed_eq m c) fun i => by
    have h0 : (i 0 : Nat) < 16384 := (i 0).isLt
    have h1 : (i 1 : Nat) < 48 := (i 1).isLt
    let t : Fin cfg0.N := ⟨(i 0 : Nat) / 1024, by rw [show cfg0.N = 16 from N_0]; omega⟩
    refine ⟨t, flush0_7 t, ?_⟩
    show i ∈ ((View.whole main_v23).slice (win0_7.rect t)).set
    rw [View.set_slice_whole, Rect.mem_set_unit]
    intro a
    match a with
    | ⟨0, _⟩ => show win0_7.index t 0 * 1024 ≤ (i 0 : Nat) ∧ (i 0 : Nat) < win0_7.index t 0 * 1024 + 1024
                rw [(index_t t).2.2.1]; show (i 0 : Nat) / 1024 * 1024 ≤ _ ∧ _ < (i 0 : Nat) / 1024 * 1024 + 1024; omega
    | ⟨1, _⟩ => show win0_7.index t 1 * 48 ≤ (i 1 : Nat) ∧ (i 1 : Nat) < win0_7.index t 1 * 48 + 48
                rw [(index_t t).2.2.2]; omega

/-- The kernel's result. -/
def result : FVec Ideal S16384x3x16 .f32 := fun i => kernelAt m c (i 0) (i 1) (i 2)

/-- The last host operation lays the rows out as the result. -/
theorem tail_eq : Pipeline.afterTail₀ cfgs (dats m) 0 (V0 m) [hostOps1] c main_v24 = result m c := by
  have e : Pipeline.afterTail₀ cfgs (dats m) 0 (V0 m) [hostOps1] c main_v24 = shapeCast S16384x3x16 (flat m c) shapeCasts_S16384x48_S16384x3x16 := by
    unfold Pipeline.afterTail₀
    show StableHlo.after hostOps1 _ (Proc.devRef .tc main_v24) = _
    after_results
    rw [← final m c]
    exact congrArg (fun f => shapeCast S16384x3x16 f shapeCasts_S16384x48_S16384x3x16)
      (Pipeline.withArrays_arr spec0 (by decide) c (V0 m c) (fun w => (dats m 0 c).arrAt w cfg0.N) 7)
  rw [e]
  funext i
  rw [eq_ix3 (f := i)]
  generalize i 0 = B
  generalize i 1 = o
  generalize i 2 = l
  unfold result
  pointwise [flat]
  have ho : (o : Nat) < 3 := o.isLt
  have hl : (l : Nat) < 16 := l.isLt
  congr 1
  · exact Fin.ext (by show ((o : Nat) * 16 + l) / 16 = o; omega)
  · exact Fin.ext (by show ((o : Nat) * 16 + l) % 16 = l; omega)

/-- The run, read: the result array, and the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v24) = result m c
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c
      ∧ r.2.mem ((c.tc : Thread nD τ).loc main_arg4) = a4 m c
      ∧ r.2.mem ((c.tc : Thread nD τ).loc main_arg5) = a5 m c
      ∧ r.2.mem ((c.tc : Thread nD τ).loc main_arg6) = a6 m c :=
  (θ_run defs _ _).mono (fun r h c => ⟨((h.1 c).2 main_v24 (Pipeline.mem_restRefs_of main_v24 (by decide) (by decide))).trans (tail_eq m c), h.2 c⟩)
    (θ_run_and (run_main m ρ) (unchanged m ρ))

end Cert.KernelIdeal.Array

end
-- ==== Proof.RefValue.lean ====
/-
  What the reference computes, read at an index of its result: the masked sum over the three groups and their hidden
  units, plus the bias, under the hyperbolic tangent, scaled.
-/
module

public import proofs.«01_k».proof.Proof.Gen.ReferenceIdeal.Read
public import proofs.«01_k».proof.Proof.Spec
public import Idealize.ShloMosaic.Lib.Pointwise

@[expose] public section

noncomputable section

namespace Cert.ReferenceIdeal.AtIndex

open Idealize.ShloMosaic Idealize.ShloMosaic.TcCoe Idealize.ShloMosaic.Pointwise
open Cert.ReferenceIdeal Cert.ReferenceIdeal.Gen Cert.ReferenceIdeal.Read Cert.Spec
open scoped BigOperators

variable (x0 : (⟨S16384x3x16, .f32⟩ : BufTy).Contents (Elt Ideal)) (x1 : (⟨S3x128x1, .f32⟩ : BufTy).Contents (Elt Ideal))
  (x2 : (⟨S384, .f32⟩ : BufTy).Contents (Elt Ideal)) (x3 : (⟨S3x128x128, .f32⟩ : BufTy).Contents (Elt Ideal))
  (x4 : (⟨S384, .f32⟩ : BufTy).Contents (Elt Ideal)) (x5 : (⟨S3x384, .f32⟩ : BufTy).Contents (Elt Ideal))
  (x6 : (⟨S3, .f32⟩ : BufTy).Contents (Elt Ideal))

/-- The first layer, clamped. -/
theorem first_apply (B : Fin 16384) (g : Fin 3) (k : Fin 128) (l : Fin 16) :
    val_main_v12 (F := Ideal) x0 x1 x2 (ix4 B g k l) = max (x1 (ix3 g k 0) * x0 (ix3 B g l) + x2 (ix1 ⟨128 * g.val + k.val, by omega⟩)) 0 := by
  pointwise [val_main_v12, val_main_v11, val_main_v10, val_main_v9, val_main_v8, val_main_v7, val_main_v6, val_main_call0_v0, val_main_call0_cst]
  simp only [Fin.sum_univ_one, mul_comm g.val 128]

/-- The second layer: the group's hidden units at its input. -/
theorem second_apply (B : Fin 16384) (g : Fin 3) (k : Fin 128) (l : Fin 16) :
    val_main_v18 (F := Ideal) x0 x1 x2 x3 x4 (ix4 B g k l)
      = layer2 (fun c => x1 (ix3 g c 0)) (fun c => x2 (ix1 ⟨128 * g.val + c.val, by omega⟩)) (fun k c => x3 (ix3 g k c))
          (fun k => x4 (ix1 ⟨128 * g.val + k.val, by omega⟩)) (x0 (ix3 B g l)) k := by
  unfold layer2
  simp only [← first_apply x0 x1 x2 B g _ l]
  pointwise [val_main_v18, val_main_v17, val_main_v16, val_main_v15, val_main_v14, val_main_v13, val_main_call1_v0, val_main_call1_cst]
  simp only [mul_comm g.val 128]

/-- The mask, the same for every hidden unit of a group. -/
theorem mask_apply (B : Fin 16384) (g : Fin 3) (k : Fin 128) (l : Fin 16) :
    val_main_v3 (F := Ideal) x0 (ix4 B g k l) = mask eps (x0 (ix3 B g l)) := by
  pointwise [val_main_v3, val_main_v2, val_main_v1, val_main_v0, val_main_cst]
  by_cases h : eps < x0 (ix3 B g l)
  · simp [mask, h, FloatOps.uitofp]
  · simp [mask, h, FloatOps.uitofp]

/-- A masked hidden unit, at the row of the flattened array that holds it. -/
theorem masked_apply (B : Fin 16384) (g : Fin 3) (k : Fin 128) (l : Fin 16) (h : 128 * g.val + k.val < 384) :
    val_main_v20 (F := Ideal) x0 x1 x2 x3 x4 (ix3 B ⟨128 * g.val + k.val, h⟩ l)
      = layer2 (fun c => x1 (ix3 g c 0)) (fun c => x2 (ix1 ⟨128 * g.val + c.val, by omega⟩)) (fun k c => x3 (ix3 g k c))
          (fun k => x4 (ix1 ⟨128 * g.val + k.val, by omega⟩)) (x0 (ix3 B g l)) k * mask eps (x0 (ix3 B g l)) := by
  rw [← second_apply, ← mask_apply x0 B g k l]
  unfold val_main_v20 val_main_v19 val_main_v4
  generalize val_main_v18 (F := Ideal) x0 x1 x2 x3 x4 = y
  generalize val_main_v3 (F := Ideal) x0 = z
  pointwise

/-- THE REFERENCE: its result at batch row `B`, output `o` and lane `l`. -/
theorem out_apply (B : Fin 16384) (o : Fin 3) (l : Fin 16) :
    val_main_v35 (F := Ideal) x0 x1 x2 x3 x4 x5 x6 (ix3 B o l)
      = Ideal.tanh ((∑ g : Fin 3, ∑ k : Fin 128, x5 (ix2 o ⟨128 * g.val + k.val, by omega⟩)
            * (layer2 (fun c => x1 (ix3 g c 0)) (fun c => x2 (ix1 ⟨128 * g.val + c.val, by omega⟩)) (fun k c => x3 (ix3 g k c))
                (fun k => x4 (ix1 ⟨128 * g.val + k.val, by omega⟩)) (x0 (ix3 B g l)) k * mask eps (x0 (ix3 B g l)))) + x6 (ix1 o))
          * scale (x0 (ix3 B 0 l) + x0 (ix3 B 1 l) + x0 (ix3 B 2 l)) := by
  have flat : ∑ s, x5 (ix2 o s) * val_main_v20 (F := Ideal) x0 x1 x2 x3 x4 (ix3 B s l) = _ :=
    (sum_384 fun s => x5 (ix2 o s) * val_main_v20 (F := Ideal) x0 x1 x2 x3 x4 (ix3 B s l)).trans
      (Finset.sum_congr rfl fun g _ => Finset.sum_congr rfl fun k _ =>
        congrArg (x5 (ix2 o ⟨128 * g.val + k.val, by omega⟩) * ·) (masked_apply x0 x1 x2 x3 x4 B g k l _))
  rw [← flat, ← Fin.sum_univ_three (fun g => x0 (ix3 B g l))]
  unfold scale val_main_v35 val_main_v26 val_main_v25 val_main_v22 val_main_v21
  generalize val_main_v20 (F := Ideal) x0 x1 x2 x3 x4 = y
  pointwise [val_main_v24, val_main_v23, val_main_v34, val_main_v33, val_main_v32, val_main_v31, val_main_v30, val_main_v29, val_main_v28, val_main_v27, val_main_v5,
    val_main_cst_0, val_main_cst_1, val_main_cst_2]

end Cert.ReferenceIdeal.AtIndex

end
-- ==== Proof.Pre.lean ====
module

public import proofs.«01_k».proof.Pre_zero_or_live
public import proofs.«01_k».proof.Proof.Spec
public import Idealize.ShloMosaic.Lib.ReduceAll
public import Idealize.ShloMosaic.Lib.Affine
public import Idealize.ShloMosaic.Lib.Pointwise
public import Idealize.ShloMosaic.Lib.WordCmp

/-! What the precondition says: every input element is zero or above the threshold, and the biases of both hidden
    layers, the second layer's weights and the output weights are finite. -/

@[expose] public section

noncomputable section

namespace Cert.Pre_zero_or_live

open Idealize.ShloMosaic Idealize.ShloMosaic.Pointwise
open Cert.Spec

/-- The side conditions of the printed precondition. -/
instance facts : Facts where
  bcast_S_S16384x3x16 := by decide
  reducesTo_S16384x3x16_S_d0_1_2 := by decide
  h_S_ := by decide
  bcast_S_S384 := by decide
  reducesTo_S384_S_d0 := by decide
  bcast_S_S3x128x128 := by decide
  reducesTo_S3x128x128_S_d0_1_2 := by decide
  bcast_S_S3x384 := by decide
  reducesTo_S3x384_S_d0_1 := by decide

/-- The result of the precondition has one index. -/
instance : Subsingleton S_.Idx := ⟨fun a b => funext fun d => d.elim0⟩

/-- The constant the absolute values are compared with is infinity. -/
theorem ofBits_inf : Ideal.ofBits .f32 0x7F800000#32 = ⊤ := by simp [Ideal.ofBits, Ideal.ieee]

/-- An element whose absolute value compares below infinity is finite. -/
theorem finite_of_bit {S : Shape} (w : FVec Ideal S .f32) (h : S_.BroadcastsInDim S (![] : Fin 0 → Fin S.rank)) (i : S.Idx)
    (e : cmpf .olt (Host.absf w) (broadcastInDim S ![] h (constant (F := Ideal) S_ .f32 0x7F800000#32)) i = 1#1) : IsFin (w i) := by
  replace e : BitVec.ofBool (decide (max (w i) (-(w i)) < Ideal.ofBits .f32 0x7F800000#32)) = 1#1 := e
  rw [WordCmp.ofBool_decide_eq_one_iff, ofBits_inf, max_lt_iff] at e
  exact ⟨e.1.ne, fun hb => e.2.ne (by rw [hb]; rfl)⟩

/-- An element equal to zero or above the threshold. -/
theorem zero_or_live_of_bit (x : FVec Ideal S16384x3x16 .f32) (h : S_.BroadcastsInDim S16384x3x16 (![] : Fin 0 → Fin S16384x3x16.rank)) (i : S16384x3x16.Idx)
    (e : ori (cmpf .oeq x (broadcastInDim S16384x3x16 ![] h (constant (F := Ideal) S_ .f32 0x00000000#32)))
      (cmpf .ogt x (broadcastInDim S16384x3x16 ![] h (constant (F := Ideal) S_ .f32 0x358637BD#32))) i = 1#1) : x i = 0 ∨ eps < x i := by
  replace e : IntOp.ori (BitVec.ofBool (decide (x i = Ideal.ofBits .f32 0#32))) (BitVec.ofBool (decide (eps < x i))) = 1#1 := e
  rw [IntOp.ori_eq_one, WordCmp.ofBool_decide_eq_one_iff, WordCmp.ofBool_decide_eq_one_iff, Ideal.ofBits_zero_f32] at e
  exact e

/-- The precondition, read: its five conjuncts at an index. -/
theorem read (x0 : FVec Ideal S16384x3x16 .f32) (x1 : FVec Ideal S3x128x1 .f32) (x2 : FVec Ideal S384 .f32) (x3 : FVec Ideal S3x128x128 .f32)
    (x4 : FVec Ideal S384 .f32) (x5 : FVec Ideal S3x384 .f32) (x6 : FVec Ideal S3 .f32) (h : fn (F := Ideal) x0 x1 x2 x3 x4 x5 x6 = fun _ => 1#1) :
    (∀ i, x0 i = 0 ∨ eps < x0 i) ∧ (∀ i, IsFin (x2 i)) ∧ (∀ i, IsFin (x3 i)) ∧ (∀ i, IsFin (x4 i)) ∧ (∀ i, IsFin (x5 i)) := by
  have e := congrFun h ix0
  unfold fn fn_part1 at e
  obtain ⟨h0, e⟩ := IntOp.andi_eq_one.1 e
  obtain ⟨e, h5⟩ := IntOp.andi_eq_one.1 e
  obtain ⟨e, h4⟩ := IntOp.andi_eq_one.1 e
  obtain ⟨h2, h3⟩ := IntOp.andi_eq_one.1 e
  exact ⟨fun i => zero_or_live_of_bit x0 _ i (Host.reduce_andi_all _ _ _ _ _ h0 i), fun i => finite_of_bit x2 _ i (Host.reduce_andi_all _ _ _ _ _ h2 i),
    fun i => finite_of_bit x3 _ i (Host.reduce_andi_all _ _ _ _ _ h3 i), fun i => finite_of_bit x4 _ i (Host.reduce_andi_all _ _ _ _ _ h4 i),
    fun i => finite_of_bit x5 _ i (Host.reduce_andi_all _ _ _ _ _ h5 i)⟩

end Cert.Pre_zero_or_live

end
-- ==== Proof.Equal.lean ====
module

public import proofs.«01_k».proof.Proof.Array
public import proofs.«01_k».proof.Proof.RefValue
public import proofs.«01_k».proof.Proof.Pre

/-! The equation: under the precondition the kernel's result is the reference's, element by element. -/

@[expose] public section

noncomputable section

namespace Cert.Equal

open Idealize.ShloMosaic Idealize.ShloMosaic.Pointwise Idealize.SL.Sem
open Cert.KernelIdeal Cert.KernelIdeal.Host Cert.KernelIdeal.Array Cert.Spec

variable (m : (ℓ : Loc nD τ sig) → Buf (Elt Ideal) ℓ) (c : Dev nD)

/-- Where every input is zero or above the threshold and the biases and later weights are finite, the array the kernel
    leaves is the reference's function of the arguments. -/
theorem result_eq (h : Cert.Pre_zero_or_live.fn (F := Ideal) (a0 m c) (a1 m c) (a2 m c) (a3 m c) (a4 m c) (a5 m c) (a6 m c) = fun _ => 1#1) :
    result m c = Cert.ReferenceIdeal.Read.val_main_v35 (F := Ideal) (a0 m c) (a1 m c) (a2 m c) (a3 m c) (a4 m c) (a5 m c) (a6 m c) := by
  obtain ⟨hx, h1, hw, h2, hl⟩ := Cert.Pre_zero_or_live.read _ _ _ _ _ _ _ h
  funext i
  rw [eq_ix3 (f := i)]
  refine Eq.trans ?_ (Cert.ReferenceIdeal.AtIndex.out_apply (a0 m c) (a1 m c) (a2 m c) (a3 m c) (a4 m c) (a5 m c) (a6 m c) (i 0) (i 1) (i 2)).symm
  show kernelAt m c (i 0) (i 1) (i 2) = _
  unfold kernelAt
  congr 2
  exact logit_eq _ (fun g k => h1 _) (fun g k c' => hw _) (fun g k => h2 _) (fun g k => hl _) (fun g => hx (ix3 (i 0) g (i 2)))

end Cert.Equal

end
-- ==== Proof.lean ====
/-
  The proof of the certificate's claims: the two kernel programs and the reference run, stop with every counter at zero
  and leave their arguments unchanged, and under the precondition the kernel's result over the extended reals is the
  reference's. The mathematics is in the modules of Proof/; this one assembles it.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Equal
public import Idealize.ShloMosaic.Lib.Quiescent

@[expose] public section

noncomputable section

namespace Cert.Proof

open Idealize.ShloMosaic Idealize.SL.Sem

/-- The reference runs, leaves its arguments unchanged, and ends with every counter at zero: it names none. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel's result is the reference's. -/
theorem value : Cert.algebraic_KernelIdeal_ReferenceIdeal_pre_zero_or_live := by
  intro m ρ m' ρ' hpre hagree
  refine ⟨fun c => Cert.KernelIdeal.Array.result m c, Cert.KernelIdeal.Array.run m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6⟩ := hagree c
  rw [e0, e1, e2, e3, e4, e5, e6]
  exact (Cert.ReferenceIdeal.Read.val_main_v35_eq ..).trans (Cert.Equal.result_eq m c (hpre c)).symm

/-- Every claim of the certificate. -/
theorem claim : Cert.Claim :=
  ⟨Cert.Kernel.Gen.facts, Cert.KernelIdeal.Gen.facts, Cert.ReferenceIdeal.Gen.facts, Cert.Pre_zero_or_live.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, value⟩

end Cert.Proof

end
